-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x4096x1024 : Shape := ⟨3, ![4, 4096, 1024]⟩
abbrev S4096x1024 : Shape := ⟨2, ![4096, 1024]⟩
abbrev S64x1024 : Shape := ⟨2, ![64, 1024]⟩
abbrev S16x64x1024 : Shape := ⟨3, ![16, 64, 1024]⟩
abbrev S_ : Shape := ⟨0, ![]⟩
abbrev S1x64x1024 : Shape := ⟨3, ![1, 64, 1024]⟩

abbrev nBuf : Table → Nat
  | .hbm => 3
  | .shared => 1
  | .local .scVector .vmem => 1
  | _ => 0

abbrev bufTy : (tb : Table) → Fin (nBuf tb) → BufTy
  | .hbm, ⟨0, _⟩ => ⟨S4x4096x1024, .f32⟩
  | .hbm, ⟨1, _⟩ => ⟨S4096x1024, .f32⟩
  | .hbm, ⟨2, _⟩ => ⟨S4x4096x1024, .f32⟩
  | .shared, ⟨0, _⟩ => ⟨S16x64x1024, .f32⟩
  | .local .scVector .vmem, ⟨0, _⟩ => ⟨S64x1024, .f32⟩
  | _, _ => ⟨S4x4096x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_v0_scv : Ref sig .scVector := ⟨.hbm, 2, rfl⟩
abbrev cc0_scratch1 : Ref sig .scVector := ⟨.shared, 0, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  ![v2.toNat, 0]
def k0_off2 (i : grid0.Coords) : Fin 3 → Nat :=
  let arg1 : BitVec 32 := BitVec.ofNat 32 (i 1).val
  let c0_i32_1 : BitVec 32 := 0#32
  let c0_i32_2 : BitVec 32 := 0#32
  ![arg1.toNat, 0, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32 : BitVec 32 := 64#32
  let v5 : BitVec 32 := Scalar.addi v2 c64_i32
  let c0_i32_3 : BitVec 32 := 0#32
  ![v5.toNat, 0]
def k0_off4 (i : grid0.Coords) : Fin 3 → Nat :=
  let c0_i32_6 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_7 : BitVec 32 := 0#32
  ![0, v2.toNat, 0]
def k0_off5 (i : grid0.Coords) : Fin 3 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_9 : BitVec 32 := 0#32
  ![1, v2.toNat, 0]
def k0_off6 (i : grid0.Coords) : Fin 3 → Nat :=
  let c2_i32_11 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_12 : BitVec 32 := 0#32
  ![2, v2.toNat, 0]
def k0_off7 (i : grid0.Coords) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_14 : BitVec 32 := 0#32
  ![3, v2.toNat, 0]
def k0_off8 (i : grid0.Coords) : Fin 3 → Nat :=
  let c0_i32_20 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_19 : BitVec 32 := 64#32
  let v30 : BitVec 32 := Scalar.addi v2 c64_i32_19
  let c0_i32_21 : BitVec 32 := 0#32
  ![0, v30.toNat, 0]
def k0_off9 (i : grid0.Coords) : Fin 3 → Nat :=
  let c1_i32_25 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_24 : BitVec 32 := 64#32
  let v35 : BitVec 32 := Scalar.addi v2 c64_i32_24
  let c0_i32_26 : BitVec 32 := 0#32
  ![1, v35.toNat, 0]
def k0_off10 (i : grid0.Coords) : Fin 3 → Nat :=
  let c2_i32_30 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_29 : BitVec 32 := 64#32
  let v40 : BitVec 32 := Scalar.addi v2 c64_i32_29
  let c0_i32_31 : BitVec 32 := 0#32
  ![2, v40.toNat, 0]
def k0_off11 (i : grid0.Coords) : Fin 3 → Nat :=
  let c3_i32_35 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_34 : BitVec 32 := 64#32
  let v45 : BitVec 32 := Scalar.addi v2 c64_i32_34
  let c0_i32_36 : BitVec 32 := 0#32
  ![3, v45.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x4096x1024 : Shape := ⟨3, ![4, 4096, 1024]⟩
abbrev S4096x1024 : Shape := ⟨2, ![4096, 1024]⟩
abbrev S4096 : Shape := ⟨1, ![4096]⟩
abbrev S1x4096 : Shape := ⟨2, ![1, 4096]⟩
abbrev S4x4096 : Shape := ⟨2, ![4, 4096]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4096, .i32⟩
  | .hbm, ⟨3, _⟩ => ⟨S1x4096, .i32⟩
  | .hbm, ⟨4, _⟩ => ⟨S4x4096, .i32⟩
  | .hbm, ⟨5, _⟩ => ⟨S_, .i32⟩
  | .hbm, ⟨6, _⟩ => ⟨S4x4096, .i32⟩
  | .hbm, ⟨7, _⟩ => ⟨S4x4096, .i1⟩
  | .hbm, ⟨8, _⟩ => ⟨S_, .i32⟩
  | .hbm, ⟨9, _⟩ => ⟨S4x4096, .i32⟩
  | .hbm, ⟨10, _⟩ => ⟨S4x4096, .i32⟩
  | .hbm, ⟨11, _⟩ => ⟨S4x4096, .i32⟩
  | .hbm, ⟨12, _⟩ => ⟨S4x4096x1, .i32⟩
  | .hbm, ⟨13, _⟩ => ⟨S1, .i32⟩
  | .hbm, ⟨14, _⟩ => ⟨S_, .i32⟩
  | .hbm, ⟨15, _⟩ => ⟨S4x4096x1, .i32⟩
  | .hbm, ⟨16, _⟩ => ⟨S4x4096x1, .i1⟩
  | .hbm, ⟨17, _⟩ => ⟨S1x1x1, .i32⟩
  | .hbm, ⟨18, _⟩ => ⟨S4x4096x1, .i32⟩
  | .hbm, ⟨19, _⟩ => ⟨S4x4096x1, .i1⟩
  | .hbm, ⟨20, _⟩ => ⟨S4x4096x1, .i1⟩
  | .hbm, ⟨21, _⟩ => ⟨S_, .i1⟩
  | .hbm, ⟨22, _⟩ => ⟨S4x4096, .i1⟩
  | .hbm, ⟨23, _⟩ => ⟨S4x4096x1024, .f32⟩
  | .hbm, ⟨24, _⟩ => ⟨S4x4096x1024, .i1⟩
  | .hbm, ⟨25, _⟩ => ⟨S_, .f32⟩
  | .hbm, ⟨26, _⟩ => ⟨S4x4096x1024, .f32⟩
  | .hbm, ⟨27, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Setup.lean ====
/-
  The program as the SparseCore launch theorem sees it, its buffers, and the blocks its 32 vector subcores work on.

  Vector subcore `(c, s)` (SparseCore `c`, tile `s`) owns 128 rows of the table, from row `256 s + 128 c` on, in two halves of
  64 rows. It brings the first half to its own vector memory, the second to its row of the SparseCore's shared memory, and
  writes each half to the same rows of each of the four batch entries of the result. So the table falls into 64 blocks
  `(c, s, h)` and the result into 256 blocks `(c, s, h, b)`; this file names them, and shows that they are disjoint and cover.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ValueLayout
public import Idealize.ShloMosaic.Lib.Pipeline.ValueKit.Geometry
public import proofs.«01_k».proof.Proof.Gen.KernelIdeal
public import proofs.«01_k».proof.Proof.Gen.KernelIdeal.Skeleton

@[expose] public section

noncomputable section

namespace Cert.PosEmbed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-- The five handshake semaphores are distinct and outside every region, and no SparseCore's shared buffer is a task's. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev eLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-- SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

/-- The table, the result, the tile's own scratch and the shared scratch, whole, as a vector subcore names them. -/
abbrev tV : Memref sig .scVector .hbm S4096x1024 .f32 := Memref.whole main_arg1_scv
abbrev oV : Memref sig .scVector .hbm S4x4096x1024 .f32 := Memref.whole main_v0_scv
abbrev vV : Memref sig .scVector .vmem S64x1024 .f32 := Memref.whole cc0_scratch0
abbrev sV : Memref sig .scVector .shared S16x64x1024 .f32 := Memref.whole cc0_scratch1

/-! ## The blocks -/

/-- Half `h` of tile `(c, s)`'s rows of the table. -/
def tSet (c : Fin 2) (s : Fin 16) (h : Fin 2) : Finset S4096x1024.Idx :=
  Finset.univ.filter fun j => 256 * s.val + 128 * c.val + 64 * h.val ≤ (j 0).val ∧ (j 0).val < 256 * s.val + 128 * c.val + 64 * h.val + 64

/-- The same rows of batch entry `b` of the result. -/
def oSet (c : Fin 2) (s : Fin 16) (h : Fin 2) (b : Fin 4) : Finset S4x4096x1024.Idx :=
  Finset.univ.filter fun j => (j 0).val = b.val
    ∧ 256 * s.val + 128 * c.val + 64 * h.val ≤ (j 1).val ∧ (j 1).val < 256 * s.val + 128 * c.val + 64 * h.val + 64

/-- Row `s` of a SparseCore's shared scratch. -/
def shSet (s : Fin 16) : Finset S16x64x1024.Idx := Finset.univ.filter fun j => (j 0).val = s.val

theorem tSet_disjoint : ∀ p ∈ (Finset.univ : Finset (Fin 2 × Fin 16 × Fin 2)), ∀ q ∈ (Finset.univ : Finset (Fin 2 × Fin 16 × Fin 2)), p ≠ q →
    Disjoint (tSet p.1 p.2.1 p.2.2) (tSet q.1 q.2.1 q.2.2) := by
  rintro ⟨c, s, h⟩ - ⟨c', s', h'⟩ - hne
  refine Finset.disjoint_left.mpr fun j hj hj' => hne ?_
  simp only [tSet, Finset.mem_filter, Finset.mem_univ, true_and] at hj hj'
  have := c.isLt; have := c'.isLt; have := s.isLt; have := s'.isLt; have := h.isLt; have := h'.isLt
  simp only [Prod.mk.injEq, Fin.ext_iff]
  omega

theorem tSet_cover : (Finset.univ : Finset (Fin 2 × Fin 16 × Fin 2)).biUnion (fun p => tSet p.1 p.2.1 p.2.2) = Finset.univ := by
  refine Finset.eq_univ_of_forall fun j => Finset.mem_biUnion.mpr ?_
  have hj : (j 0).val < 4096 := (j 0).isLt
  refine ⟨(⟨(j 0).val / 128 % 2, by omega⟩, ⟨(j 0).val / 256, by omega⟩, ⟨(j 0).val / 64 % 2, by omega⟩), Finset.mem_univ _, ?_⟩
  simp only [tSet, Finset.mem_filter, Finset.mem_univ, true_and]
  omega

theorem oSet_disjoint : ∀ p ∈ (Finset.univ : Finset (Fin 2 × Fin 16 × Fin 2 × Fin 4)), ∀ q ∈ (Finset.univ : Finset (Fin 2 × Fin 16 × Fin 2 × Fin 4)), p ≠ q →
    Disjoint (oSet p.1 p.2.1 p.2.2.1 p.2.2.2) (oSet q.1 q.2.1 q.2.2.1 q.2.2.2) := by
  rintro ⟨c, s, h, b⟩ - ⟨c', s', h', b'⟩ - hne
  refine Finset.disjoint_left.mpr fun j hj hj' => hne ?_
  simp only [oSet, Finset.mem_filter, Finset.mem_univ, true_and] at hj hj'
  have := c.isLt; have := c'.isLt; have := s.isLt; have := s'.isLt; have := h.isLt; have := h'.isLt
  simp only [Prod.mk.injEq, Fin.ext_iff]
  omega

theorem oSet_cover : (Finset.univ : Finset (Fin 2 × Fin 16 × Fin 2 × Fin 4)).biUnion (fun p => oSet p.1 p.2.1 p.2.2.1 p.2.2.2) = Finset.univ := by
  refine Finset.eq_univ_of_forall fun j => Finset.mem_biUnion.mpr ?_
  have hj : (j 1).val < 4096 := (j 1).isLt
  refine ⟨(⟨(j 1).val / 128 % 2, by omega⟩, ⟨(j 1).val / 256, by omega⟩, ⟨(j 1).val / 64 % 2, by omega⟩, j 0), Finset.mem_univ _, ?_⟩
  simp only [oSet, Finset.mem_filter, Finset.mem_univ, true_and]
  omega

theorem shSet_disjoint : ∀ s ∈ (Finset.univ : Finset (Fin 16)), ∀ s' ∈ (Finset.univ : Finset (Fin 16)), s ≠ s' → Disjoint (shSet s) (shSet s') := by
  rintro s - s' - hne
  refine Finset.disjoint_left.mpr fun j hj hj' => hne ?_
  simp only [shSet, Finset.mem_filter, Finset.mem_univ, true_and] at hj hj'
  exact Fin.ext (by omega)

theorem shSet_cover : (Finset.univ : Finset (Fin 16)).biUnion shSet = Finset.univ := by
  refine Finset.eq_univ_of_forall fun j => Finset.mem_biUnion.mpr ⟨j 0, Finset.mem_univ _, ?_⟩
  simp only [shSet, Finset.mem_filter, Finset.mem_univ, true_and]

/-! ## The result's contents -/

/-- The table's place for a place of the result: the same row and column, whatever the batch entry. -/
def tIdx (j : S4x4096x1024.Idx) : S4096x1024.Idx := ValueIdx.ix2 (j 1) (j 2)

/-- What the kernel leaves in the result: each batch entry is the table. -/
def G (m : (ℓ : Loc nD τ sig) → Buf (Elt F) ℓ) (d : Dev nD) : Buf (Elt F) (oLoc d) := fun j => m (tLoc d) (tIdx j)

end Cert.PosEmbed

end
-- ==== Proof.Tile.lean ====
/-
  One vector subcore's task, from its blocks to its blocks.
-/
module

public import proofs.«01_k».proof.Proof.Setup

@[expose] public section

noncomputable section

namespace Cert.PosEmbed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## What a task takes and brings back -/

/-- A block of the table at the launch contents. -/
abbrev tPts (d : Dev nD) (c : Fin 2) (s : Fin 16) (h : Fin 2) : sProp 𝕄 := tLoc d ↦[tSet c s h]{fullShare} m (tLoc d)
/-- A block of the result at contents `f`. -/
abbrev oPts (d : Dev nD) (c : Fin 2) (s : Fin 16) (h : Fin 2) (b : Fin 4) (f : Buf (Elt F) (oLoc d)) : sProp 𝕄 := oLoc d ↦[oSet c s h b]{fullShare} f
/-- Row `s` of SparseCore `c`'s shared scratch, at some contents. -/
abbrev shPts (d : Dev nD) (c : Fin τ.nSC) (s : Fin 16) : sProp 𝕄 := iprop(∃ f, shLoc d c ↦[shSet s]{fullShare} f)

/-- Tile `(c, s)`'s blocks of the table, and of the result at contents `f`. -/
def blocks (d : Dev nD) (c : Fin 2) (s : Fin 16) (f : Buf (Elt F) (oLoc d)) : sProp 𝕄 :=
  iprop((bigSep Finset.univ fun h : Fin 2 => tPts m d c s h) ∗ bigSep Finset.univ fun h : Fin 2 => bigSep Finset.univ fun b : Fin 4 => oPts d c s h b f)

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The same, block by block. -/
theorem blocks_eq (d : Dev nD) (c : Fin 2) (s : Fin 16) (f : Buf (Elt F) (oLoc d)) :
    blocks m d c s f = iprop((tPts m d c s 0 ∗ tPts m d c s 1)
      ∗ (oPts d c s 0 0 f ∗ oPts d c s 0 1 f ∗ oPts d c s 0 2 f ∗ oPts d c s 0 3 f)
      ∗ oPts d c s 1 0 f ∗ oPts d c s 1 1 f ∗ oPts d c s 1 2 f ∗ oPts d c s 1 3 f) := by
  unfold blocks
  rw [BI.bigSep_fin_two, BI.bigSep_fin_two, bigSep_four, bigSep_four]
  rfl

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

/-! ## The windows the task names, and their elements -/

/-- The window of 64 rows of the table at `off`. -/
abbrev tK (off : Fin 2 → ℕ) (inb : ∀ a, off a + S64x1024.size a ≤ S4096x1024.size a) : Memref sig .scVector .hbm S64x1024 .f32 :=
  tV.slice (Rect.unit (s := S4096x1024) off S64x1024.size inb) (fun _ => rfl)
/-- The window of 64 rows of one batch entry of the result at `off`. -/
abbrev oK (off : Fin 3 → ℕ) (inb : ∀ a, off a + S1x64x1024.size a ≤ S4x4096x1024.size a) : Memref sig .scVector .hbm S64x1024 .f32 :=
  (oV.slice (Rect.unit (s := S4x4096x1024) off S1x64x1024.size inb) (fun _ => rfl)).squeeze S64x1024 squeezes_S1x64x1024_S64x1024
/-- The tile's row of the shared scratch. -/
abbrev shK (L : grid0.Coords) : Memref sig .scVector .shared S64x1024 .f32 :=
  (sV.slice (Rect.unit (s := S16x64x1024) (k0_off2 L) S1x64x1024.size (k0_off2_inb L)) (fun _ => rfl)).squeeze S64x1024 squeezes_S1x64x1024_S64x1024

theorem set_tK (h : Fin 2) (off : Fin 2 → ℕ) (inb) (ho : off = ![256 * (L 1).val + 128 * (L 0).val + 64 * h.val, 0]) :
    (tK off inb).view.set = tSet (cL L) (sL L) h := by
  subst ho
  show ((View.whole main_arg1_scv).slice _).set = _
  rw [View.set_slice_whole]
  ext j
  have h1 : (j 1).val < 1024 := (j 1).isLt
  refine (Rect.mem_set_unit (s := S4096x1024)).trans (Fin.forall_fin_two.trans ?_)
  simp only [tSet, Finset.mem_filter, Finset.mem_univ, true_and]
  show (256 * (L 1).val + 128 * (L 0).val + 64 * h.val ≤ (j 0).val ∧ (j 0).val < 256 * (L 1).val + 128 * (L 0).val + 64 * h.val + 64)
      ∧ (0 ≤ (j 1).val ∧ (j 1).val < 0 + 1024)
    ↔ 256 * (L 1).val + 128 * (L 0).val + 64 * h.val ≤ (j 0).val ∧ (j 0).val < 256 * (L 1).val + 128 * (L 0).val + 64 * h.val + 64
  omega

theorem set_oK (h : Fin 2) (b : Fin 4) (off : Fin 3 → ℕ) (inb) (ho : off = ![b.val, 256 * (L 1).val + 128 * (L 0).val + 64 * h.val, 0]) :
    (oK off inb).view.set = oSet (cL L) (sL L) h b := by
  subst ho
  rw [Memref.set_view_squeeze]
  show ((View.whole main_v0_scv).slice _).set = _
  rw [View.set_slice_whole]
  ext j
  have h2 : (j 2).val < 1024 := (j 2).isLt
  refine (Rect.mem_set_unit (s := S4x4096x1024)).trans ((Fin.forall_fin_succ.trans (and_congr_right' Fin.forall_fin_two)).trans ?_)
  simp only [oSet, Finset.mem_filter, Finset.mem_univ, true_and]
  show (b.val ≤ (j 0).val ∧ (j 0).val < b.val + 1)
      ∧ (256 * (L 1).val + 128 * (L 0).val + 64 * h.val ≤ (j 1).val ∧ (j 1).val < 256 * (L 1).val + 128 * (L 0).val + 64 * h.val + 64)
      ∧ (0 ≤ (j 2).val ∧ (j 2).val < 0 + 1024)
    ↔ (j 0).val = b.val
      ∧ 256 * (L 1).val + 128 * (L 0).val + 64 * h.val ≤ (j 1).val ∧ (j 1).val < 256 * (L 1).val + 128 * (L 0).val + 64 * h.val + 64
  omega

theorem set_shK : (shK L).view.set = shSet (sL L) := by
  rw [Memref.set_view_squeeze]
  show ((View.whole cc0_scratch1).slice _).set = _
  rw [View.set_slice_whole]
  ext j
  have h1 : (j 1).val < 64 := (j 1).isLt
  have h2 : (j 2).val < 1024 := (j 2).isLt
  refine (Rect.mem_set_unit (s := S16x64x1024)).trans ((Fin.forall_fin_succ.trans (and_congr_right' Fin.forall_fin_two)).trans ?_)
  rw [k0_off2_eq]
  simp only [shSet, Finset.mem_filter, Finset.mem_univ, true_and]
  show ((L 1).val ≤ (j 0).val ∧ (j 0).val < (L 1).val + 1) ∧ (0 ≤ (j 1).val ∧ (j 1).val < 0 + 64) ∧ (0 ≤ (j 2).val ∧ (j 2).val < 0 + 1024)
    ↔ (j 0).val = (L 1).val
  omega

abbrev ptsT (off : Fin 2 → ℕ) (inb : ∀ a, off a + S64x1024.size a ≤ S4096x1024.size a) : sProp 𝕄 :=
  (tK off inb).view.loc (V d (cV L) (jV L)) ↦[(tK off inb).view.set]{fullShare} m (tLoc d)
abbrev ptsO (off : Fin 3 → ℕ) (inb : ∀ a, off a + S1x64x1024.size a ≤ S4x4096x1024.size a) (f : Buf (Elt F) (oLoc d)) : sProp 𝕄 :=
  (oK off inb).view.loc (V d (cV L) (jV L)) ↦[(oK off inb).view.set]{fullShare} f
abbrev ptsV (f : Buf (Elt F) ((V d (cV L) (jV L)).loc cc0_scratch0)) : sProp 𝕄 := vV.view.loc (V d (cV L) (jV L)) ↦{fullShare} f
abbrev ptsSh (f : Buf (Elt F) (shLoc d (cV L))) : sProp 𝕄 := (shK L).view.loc (V d (cV L) (jV L)) ↦[(shK L).view.set]{fullShare} f

theorem ptsT_eq (h : Fin 2) (off : Fin 2 → ℕ) (inb) (ho : off = ![256 * (L 1).val + 128 * (L 0).val + 64 * h.val, 0]) :
    ptsT m d L off inb = tPts m d (cL L) (sL L) h := by
  unfold ptsT; rw [set_tK L h off inb ho]

theorem ptsO_eq (h : Fin 2) (b : Fin 4) (off : Fin 3 → ℕ) (inb) (ho : off = ![b.val, 256 * (L 1).val + 128 * (L 0).val + 64 * h.val, 0])
    (f : Buf (Elt F) (oLoc d)) : ptsO d L off inb f = oPts d (cL L) (sL L) h b f := by
  unfold ptsO; rw [set_oK L h b off inb ho]

theorem ptsSh_eq (f : Buf (Elt F) (shLoc d (cV L))) : ptsSh d L f = (shLoc d (cV L) ↦[shSet (sL L)]{fullShare} f : sProp 𝕄) := by
  unfold ptsSh; rw [set_shK]; rfl

/-! ## What a block of the result holds after the copies -/

/-- A place of a window of the result lies, in the table, at the same place of the window of the same rows. -/
theorem tIdx_emb (r b : ℕ) (inb) (tinb) (x : S64x1024.Idx) :
    tIdx ((oK ![b, r, 0] inb).view.emb x) = (tK ![r, 0] tinb).view.emb x := by
  obtain ⟨y, z, rfl⟩ : ∃ (y : Fin 64) (z : Fin 1024), x = ValueIdx.ix2 y z := ⟨x 0, x 1, by funext a; match a with | 0 => rfl | 1 => rfl⟩
  have he : (oK ![b, r, 0] inb).view.emb (ValueIdx.ix2 y z)
      = (Rect.unit (s := S4x4096x1024) ![b, r, 0] S1x64x1024.size inb).emb (ValueIdx.ix3 (⟨0, Nat.one_pos⟩ : Fin 1) y z) := by
    show (Rect.unit (s := S4x4096x1024) ![b, r, 0] S1x64x1024.size inb).emb (Shape.reshapeEquiv _ (ValueIdx.ix2 y z)) = _
    exact congrArg _ (ValueIdx.reshapeEquiv_ix2_1ab _ y z)
  rw [he]
  funext a
  apply Fin.ext
  match a with
  | 0 =>
    exact (ValueKit.rect_emb_unit_val (s := S4x4096x1024) _ _ _ _ 1).trans (ValueKit.rect_emb_unit_val (s := S4096x1024) ![r, 0] S64x1024.size tinb (ValueIdx.ix2 y z) 0).symm
  | 1 =>
    exact (ValueKit.rect_emb_unit_val (s := S4x4096x1024) _ _ _ _ 2).trans (ValueKit.rect_emb_unit_val (s := S4096x1024) ![r, 0] S64x1024.size tinb (ValueIdx.ix2 y z) 1).symm

/-- A window of the result written with the window of the table at the same rows holds the result's own contents there. -/
theorem ptsO_written (r : ℕ) (b : ℕ) (off : Fin 3 → ℕ) (inb) (ho : off = ![b, r, 0]) (toff : Fin 2 → ℕ) (tinb) (ht : toff = ![r, 0])
    (fo : Buf (Elt F) (oLoc d)) (pay : S64x1024.Idx → Elt F .f32) (hpay : pay = (tK toff tinb).view.read (Elt F) (m (tLoc d))) :
    ptsO d L off inb ((oK off inb).view.writes (Elt F) fo [⟨Rect.whole S64x1024, pay⟩]) = ptsO d L off inb (G m d) := by
  subst ho ht
  refine pointsTo_congr fun i hi => ?_
  obtain ⟨x, -, rfl⟩ := Finset.mem_map.mp hi
  have hr := congrFun (View.read_writes_whole (oK ![b, r, 0] inb).view fo pay) x
  rw [View.read_apply, cast_eq] at hr
  refine hr.trans ?_
  rw [hpay, View.read_apply, cast_eq]
  exact congrArg (m (tLoc d)) (tIdx_emb r b inb tinb x).symm

/-! ## The task's run -/

variable [FloatOps F]

abbrev cell2 (d : Dev nD) (c : Fin τ.nSC) (i : Fin τ.nSub) : GSem nD τ sig := (V d c i, .dma cc0_scratch2.sem)
abbrev cell3 (d : Dev nD) (c : Fin τ.nSC) (i : Fin τ.nSub) : GSem nD τ sig := (V d c i, .dma cc0_scratch3.sem)
abbrev cell4 (d : Dev nD) (c : Fin τ.nSC) (i : Fin τ.nSub) : GSem nD τ sig := (V d c i, .dma cc0_scratch4.sem)
abbrev cell5 (d : Dev nD) (c : Fin τ.nSC) (i : Fin τ.nSub) : GSem nD τ sig := (V d c i, .dma cc0_scratch5.sem)

set_option maxHeartbeats 4000000 in
theorem tile_run [∀ e, Nonempty (Elt F e)] (O : CellTallies nD τ sig (HIx 1)) (W : Waits sig (HIx 1))
    (fv : Buf (Elt F) ((V d (cV L) (jV L)).loc cc0_scratch0)) (fsh : Buf (Elt F) (shLoc d (cV L))) (fo : Buf (Elt F) (oLoc d))
    (_plan4 : Transfers.BatchOf (V d (cV L) (jV L)) (SemLoc.dma (sig := sig) cc0_scratch4.sem) 4 (windows := true))
    (_plan5 : Transfers.BatchOf (V d (cV L) (jV L)) (SemLoc.dma (sig := sig) cc0_scratch5.sem) 4 (windows := true)) :
    iprop(Transfers.MayWaits (V d (cV L) (jV L)) (default : HIx 1) O
        ∗ ptsT m d L (k0_off1 L) (k0_off1_inb L) ∗ ptsT m d L (k0_off3 L) (k0_off3_inb L)
        ∗ ptsO d L (k0_off4 L) (k0_off4_inb L) fo ∗ ptsO d L (k0_off5 L) (k0_off5_inb L) fo
        ∗ ptsO d L (k0_off6 L) (k0_off6_inb L) fo ∗ ptsO d L (k0_off7 L) (k0_off7_inb L) fo
        ∗ ptsO d L (k0_off8 L) (k0_off8_inb L) fo ∗ ptsO d L (k0_off9 L) (k0_off9_inb L) fo
        ∗ ptsO d L (k0_off10 L) (k0_off10_inb L) fo ∗ ptsO d L (k0_off11 L) (k0_off11_inb L) fo
        ∗ ptsV d L fv ∗ ptsSh d L fsh
        ∗ semVal (cell2 d (cV L) (jV L)) 0 ∗ semVal (cell3 d (cV L) (jV L)) 0
        ∗ semVal (cell4 d (cV L) (jV L)) 0 ∗ semVal (cell5 d (cV L) (jV L)) 0
        ∗ owes (V d (cV L) (jV L)) O W)
      ⊢ wp frame (wpE (defs₀ (F := F)) 𝒱₀ (V d (cV L) (jV L)) none) Set.univ
          (cc0__pos_embed_sc L tV (Memref.isWhole_whole _) oV (Memref.isWhole_whole _) vV (Memref.isWhole_whole _) sV (Memref.isWhole_whole _)
            cc0_scratch2 cc0_scratch3 cc0_scratch4 cc0_scratch5)
          fun _ => iprop((ptsT m d L (k0_off1 L) (k0_off1_inb L) ∗ ptsT m d L (k0_off3 L) (k0_off3_inb L)
              ∗ ptsO d L (k0_off4 L) (k0_off4_inb L) (G m d) ∗ ptsO d L (k0_off5 L) (k0_off5_inb L) (G m d)
              ∗ ptsO d L (k0_off6 L) (k0_off6_inb L) (G m d) ∗ ptsO d L (k0_off7 L) (k0_off7_inb L) (G m d)
              ∗ ptsO d L (k0_off8 L) (k0_off8_inb L) (G m d) ∗ ptsO d L (k0_off9 L) (k0_off9_inb L) (G m d)
              ∗ ptsO d L (k0_off10 L) (k0_off10_inb L) (G m d) ∗ ptsO d L (k0_off11 L) (k0_off11_inb L) (G m d))
            ∗ (∃ f, ptsV d L f) ∗ (∃ f, ptsSh d L f)
            ∗ (semVal (cell2 d (cV L) (jV L)) 0 ∗ semVal (cell3 d (cV L) (jV L)) 0
              ∗ semVal (cell4 d (cV L) (jV L)) 0 ∗ semVal (cell5 d (cV L) (jV L)) 0)
            ∗ ∃ W', ⌜∀ p ∈ W', p ∈ W ∨ p.2 = none⌝ ∗ owes (V d (cV L) (jV L)) O W') := by
  simp only [cc0__pos_embed_sc_eq_skeleton]
  unfold cc0__pos_embed_sc_skel
  simp only [k0_part1_eq_skeleton, k0_part2_eq_skeleton]
  unfold k0_part1_skel k0_part2_skel
  iintro ⟨#Hmw, Ht1, Ht3, Ho4, Ho5, Ho6, Ho7, Ho8, Ho9, Ho10, Ho11, Hv, Hsh, Hs2, Hs3, Hs4, Hs5, HO⟩
  sl_exec
  sl_step
  -- what the first copy left in the tile's scratch, and the second in its row of the shared scratch, read back: the halves of the table
  have e2 : tile_run.sl.dma2 m d L fv = (tK (k0_off1 L) (k0_off1_inb L)).view.read (Elt F) (m (tLoc d)) := by
    unfold tile_run.sl.dma2
    exact (View.read_write_univ (v := vV.view) fv (tile_run.sl.dma0 m d L)).trans rfl
  have e6 : tile_run.sl.dma6 m d L fsh = (tK (k0_off3 L) (k0_off3_inb L)).view.read (Elt F) (m (tLoc d)) := by
    unfold tile_run.sl.dma6
    exact (View.read_writes_whole (shK L).view fsh (tile_run.sl.dma0_1 m d L)).trans rfl
  ihave Ho4' := (Entails.of_eq (ptsO_written m d L _ _ _ _ (k0_off4_eq L) _ _ (k0_off1_eq L) fo _ e2)) $$ Ho4
  ihave Ho5' := (Entails.of_eq (ptsO_written m d L _ _ _ _ (k0_off5_eq L) _ _ (k0_off1_eq L) fo _ e2)) $$ Ho5
  ihave Ho6' := (Entails.of_eq (ptsO_written m d L _ _ _ _ (k0_off6_eq L) _ _ (k0_off1_eq L) fo _ e2)) $$ Ho6
  ihave Ho7' := (Entails.of_eq (ptsO_written m d L _ _ _ _ (k0_off7_eq L) _ _ (k0_off1_eq L) fo _ e2)) $$ Ho7
  ihave Ho8' := (Entails.of_eq (ptsO_written m d L _ _ _ _ (k0_off8_eq L) _ _ (k0_off3_eq L) fo _ e6)) $$ Ho8
  ihave Ho9' := (Entails.of_eq (ptsO_written m d L _ _ _ _ (k0_off9_eq L) _ _ (k0_off3_eq L) fo _ e6)) $$ Ho9
  ihave Ho10' := (Entails.of_eq (ptsO_written m d L _ _ _ _ (k0_off10_eq L) _ _ (k0_off3_eq L) fo _ e6)) $$ Ho10
  ihave Ho11' := (Entails.of_eq (ptsO_written m d L _ _ _ _ (k0_off11_eq L) _ _ (k0_off3_eq L) fo _ e6)) $$ Ho11
  isplitl [Ht1 Ht3 Ho4' Ho5' Ho6' Ho7' Ho8' Ho9' Ho10' Ho11']
  · isplitl [Ht1]; · iexact Ht1
    isplitl [Ht3]; · iexact Ht3
    isplitl [Ho4']; · iexact Ho4'
    isplitl [Ho5']; · iexact Ho5'
    isplitl [Ho6']; · iexact Ho6'
    isplitl [Ho7']; · iexact Ho7'
    isplitl [Ho8']; · iexact Ho8'
    isplitl [Ho9']; · iexact Ho9'
    isplitl [Ho10']; · iexact Ho10'
    iexact Ho11'
  isplitl [Hv]; · iexists _; iexact Hv
  isplitl [Hsh]; · iexists _; iexact Hsh
  isplitl [Hs2 Hs3 Hs4 Hs5]
  · isplitl [Hs2]; · iexact Hs2
    isplitl [Hs3]; · iexact Hs3
    isplitl [Hs4]; · iexact Hs4
    iexact Hs5
  iexists _; isplitr
  swap; · iexact HO
  ipureintro; intro p hp
  iterate 10 (rcases Finset.mem_insert.mp hp with hp | hp; · exact .inr (hp ▸ rfl))
  exact .inl hp

end Tile

end Cert.PosEmbed

end
-- ==== Proof.Launch.lean ====
/-
  The launch: the buffers split among the SparseCores and their tiles, each tile's task in its scopes, and the whole program's run.
-/
module

public import proofs.«01_k».proof.Proof.Tile

@[expose] public section

noncomputable section

namespace Cert.PosEmbed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

abbrev coreOf (c : Fin ((K (F := F)).nCore 0)) : Fin τ.nSC := (K (F := F)).core 0 c

/-! ## What the handshakes carry -/

/-- All of SparseCore `c`'s blocks, the result's at contents `f`. -/
abbrev coreBlocks (d : Dev nD) (c : Fin 2) (f : Buf (Elt F) (oLoc d)) : sProp 𝕄 := bigSep Finset.univ fun s : Fin 16 => blocks m d c s f

instance blocks_storable (d : Dev nD) (c : Fin 2) (s : Fin 16) (f : Buf (Elt F) (oLoc d)) : BI.Storable (upEmb : UEmb _ 𝕄) (blocks m d c s f) := by
  unfold blocks; infer_instance

/-- Each SparseCore takes its blocks of the table and of the result, and brings them back with the result's written; each tile
    of it takes its own blocks and its row of the shared scratch, and brings both back. -/
def P : (K (F := F)).Pay (nD := nD) (Val := Elt F) (Name := ℕ) (U := UU) where
  st := fun q d c => match q with | 0 => coreBlocks m d (Fin.cast nCore_zero c) (m (oLoc d))
  dn := fun q d c => match q with | 0 => coreBlocks m d (Fin.cast nCore_zero c) (G m d)
  go := fun q d c i => match q with
    | 0 => iprop(blocks m d (Fin.cast nCore_zero c) (Fin.cast nSub_zero i) (m (oLoc d)) ∗ shPts d (coreOf c) (Fin.cast nSub_zero i))
  td := fun q d c i => match q with
    | 0 => iprop(blocks m d (Fin.cast nCore_zero c) (Fin.cast nSub_zero i) (G m d) ∗ shPts d (coreOf c) (Fin.cast nSub_zero i))
  x := fun _ _ => iprop(emp)

instance P_storable : (P (F := F) m).IsStorable where
  st q d c := match q with
    | 0 => (inferInstance : BI.Storable (upEmb : UEmb _ 𝕄) (coreBlocks m d (Fin.cast nCore_zero c) (m (oLoc d))))
  dn q d c := match q with
    | 0 => (inferInstance : BI.Storable (upEmb : UEmb _ 𝕄) (coreBlocks m d (Fin.cast nCore_zero c) (G m d)))
  go q d c i := match q with
    | 0 => (inferInstance : BI.Storable (upEmb : UEmb _ 𝕄)
      iprop(blocks m d (Fin.cast nCore_zero c) (Fin.cast nSub_zero i) (m (oLoc d)) ∗ shPts d (coreOf c) (Fin.cast nSub_zero i)))
  td q d c i := match q with
    | 0 => (inferInstance : BI.Storable (upEmb : UEmb _ 𝕄)
      iprop(blocks m d (Fin.cast nCore_zero c) (Fin.cast nSub_zero i) (G m d) ∗ shPts d (coreOf c) (Fin.cast nSub_zero i)))

/-! ## The task in its scopes -/

section Body

variable (d : Dev nD) (L : grid0.Coords)

/-- The four transfer semaphores are among the subcore's own. -/
theorem ownSems0_V :
    (ownSems0 (V d (cV L) (jV L)) : sProp 𝕄)
      = iprop(semVal (cell2 d (cV L) (jV L)) 0 ∗ semVal (cell3 d (cV L) (jV L)) 0 ∗ semVal (cell4 d (cV L) (jV L)) 0 ∗ semVal (cell5 d (cV L) (jV L)) 0
          ∗ bigSep (((((ownCells (V d (cV L) (jV L))).erase (cell2 d (cV L) (jV L))).erase (cell3 d (cV L) (jV L))).erase (cell4 d (cV L) (jV L))).erase
              (cell5 d (cV L) (jV L))) fun g => semVal g 0) := by
  have own (x : SemLoc sig) (h : x.isScoped .scVector = true) : ((V d (cV L) (jV L), x) : GSem nD τ sig) ∈ ownCells (V d (cV L) (jV L)) :=
    (mem_ownCells (g := (V d (cV L) (jV L), x))).mpr ⟨rfl, h⟩
  have ne (x y : SemLoc sig) (h : x ≠ y) : ((V d (cV L) (jV L), x) : GSem nD τ sig) ≠ (V d (cV L) (jV L), y) := fun e => h (Prod.mk.inj e).2
  unfold SparseCore.Cfg.ownSems0
  rw [SparseCore.bigSep_erase' (own (.dma cc0_scratch2.sem) (by decide)),
    SparseCore.bigSep_erase' (Finset.mem_erase.mpr ⟨ne (.dma cc0_scratch3.sem) _ (by decide), own _ (by decide)⟩),
    SparseCore.bigSep_erase' (Finset.mem_erase.mpr ⟨ne (.dma cc0_scratch4.sem) _ (by decide),
      Finset.mem_erase.mpr ⟨ne _ _ (by decide), own _ (by decide)⟩⟩),
    SparseCore.bigSep_erase' (Finset.mem_erase.mpr ⟨ne (.dma cc0_scratch5.sem) _ (by decide),
      Finset.mem_erase.mpr ⟨ne _ _ (by decide), Finset.mem_erase.mpr ⟨ne _ _ (by decide), own _ (by decide)⟩⟩⟩)]

/-- The tile's scratch is among the subcore's own buffers. -/
theorem ownBufs_V :
    (ownBufs (V d (cV L) (jV L)) : sProp 𝕄)
      = iprop((∃ f, ptsV d L f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- The tile's blocks as the task's windows name them. -/
theorem blocks_windows (f : Buf (Elt F) (oLoc d)) :
    blocks m d (cL L) (sL L) f = iprop((ptsT m d L (k0_off1 L) (k0_off1_inb L) ∗ ptsT m d L (k0_off3 L) (k0_off3_inb L))
      ∗ (ptsO d L (k0_off4 L) (k0_off4_inb L) f ∗ ptsO d L (k0_off5 L) (k0_off5_inb L) f
        ∗ ptsO d L (k0_off6 L) (k0_off6_inb L) f ∗ ptsO d L (k0_off7 L) (k0_off7_inb L) f)
      ∗ ptsO d L (k0_off8 L) (k0_off8_inb L) f ∗ ptsO d L (k0_off9 L) (k0_off9_inb L) f
        ∗ ptsO d L (k0_off10 L) (k0_off10_inb L) f ∗ ptsO d L (k0_off11 L) (k0_off11_inb L) f) := by
  rw [blocks_eq, ptsT_eq m d L 0 _ _ (k0_off1_eq L), ptsT_eq m d L 1 _ _ (k0_off3_eq L),
    ptsO_eq d L 0 0 _ _ (k0_off4_eq L), ptsO_eq d L 0 1 _ _ (k0_off5_eq L), ptsO_eq d L 0 2 _ _ (k0_off6_eq L), ptsO_eq d L 0 3 _ _ (k0_off7_eq L),
    ptsO_eq d L 1 0 _ _ (k0_off8_eq L), ptsO_eq d L 1 1 _ _ (k0_off9_eq L), ptsO_eq d L 1 2 _ _ (k0_off10_eq L), ptsO_eq d L 1 3 _ _ (k0_off11_eq L)]

variable [FloatOps F]

/-- The task on tile `(L 0, L 1)`: from its blocks and its row of the shared scratch to the same with the result's blocks
    written, its own scratch and semaphores as the region boundary wants them. -/
theorem tile_body [∀ e, Nonempty (Elt F e)] (O : CellTallies nD τ sig (HIx 1)) (W : Waits sig (HIx 1)) (hO : ∀ g, O g none = 0) :
    iprop(levAts (K (F := F)).L (K (F := F)).lev ∗ emp
        ∗ (blocks m d (cL L) (sL L) (m (oLoc d)) ∗ shPts d (cV L) (sL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__pos_embed_sc L tV (Memref.isWhole_whole _) oV (Memref.isWhole_whole _) vV (Memref.isWhole_whole _) sV (Memref.isWhole_whole _)
            cc0_scratch2 cc0_scratch3 cc0_scratch4 cc0_scratch5)
          fun _ => iprop((blocks m d (cL L) (sL L) (G m d) ∗ shPts d (cV L) (sL L))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V launchFacts d (cV L) (jV L), SparseCore.Cfg.scopedSems0_V (Val := Elt F) d (cV L) (jV L), ownSems0_V, ownBufs_V,
    blocks_windows, blocks_windows]
  iintro ⟨#Hlv, -, ⟨⟨⟨Ht1, Ht3⟩, ⟨Ho4, Ho5, Ho6, Ho7⟩, Ho8, Ho9, Ho10, Ho11⟩, %fsh, Hsh⟩, ⟨⟨%fv, Hv⟩, Hbufs⟩, ⟨Hs2, Hs3, Hs4, Hs5, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hsh' := (Entails.of_eq (ptsSh_eq d L fsh).symm) $$ Hsh
  have hrun := tile_run m d L O W fv fsh (m (oLoc d)) (Transfers.BatchOf.intro _ _ _ true) (Transfers.BatchOf.intro _ _ _ true)
  iapply (wp_wand frame _ _) $$ [Hmw Ht1 Ht3 Ho4 Ho5 Ho6 Ho7 Ho8 Ho9 Ho10 Ho11 Hv Hsh' Hs2 Hs3 Hs4 Hs5 HO]
  · iapply hrun
    isplitl [Hmw]; · iexact Hmw
    isplitl [Ht1]; · iexact Ht1
    isplitl [Ht3]; · iexact Ht3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Hv]; · iexact Hv
    isplitl [Hsh']; · iexact Hsh'
    isplitl [Hs2]; · iexact Hs2
    isplitl [Hs3]; · iexact Hs3
    isplitl [Hs4]; · iexact Hs4
    isplitl [Hs5]; · iexact Hs5
    iexact HO
  iintro %_ ⟨⟨Ht1, Ht3, Ho4, Ho5, Ho6, Ho7, Ho8, Ho9, Ho10, Ho11⟩, Hv, ⟨%fsh', Hsh⟩, ⟨Hs2, Hs3, Hs4, Hs5⟩, HO⟩
  isplitl [Ht1 Ht3 Ho4 Ho5 Ho6 Ho7 Ho8 Ho9 Ho10 Ho11 Hsh]
  · isplitr [Hsh]
    · isplitl [Ht1 Ht3]; · isplitl [Ht1] <;> iassumption
      isplitl [Ho4 Ho5 Ho6 Ho7]
      · isplitl [Ho4]; · iexact Ho4
        isplitl [Ho5]; · iexact Ho5
        isplitl [Ho6] <;> iassumption
      isplitl [Ho8]; · iexact Ho8
      isplitl [Ho9]; · iexact Ho9
      isplitl [Ho10] <;> iassumption
    iexists fsh'; iapply (Entails.of_eq (ptsSh_eq d L fsh')); iexact Hsh
  isplitl [Hv Hbufs]
  · isplitl [Hv] <;> iassumption
  isplitl [Hs2 Hs3 Hs4 Hs5 Hsems]
  · isplitl [Hs2]; · iexact Hs2
    isplitl [Hs3]; · iexact Hs3
    isplitl [Hs4]; · iexact Hs4
    isplitl [Hs5] <;> iassumption
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__pos_embed_sc (coordsV c s)
          tV (Memref.isWhole_whole _) oV (Memref.isWhole_whole _) vV (Memref.isWhole_whole _) sV (Memref.isWhole_whole _)
          cc0_scratch2 cc0_scratch3 cc0_scratch4 cc0_scratch5) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [∀ e, Nonempty (Elt F e)] : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) O W hO).trans (wp_mono frame _ _ fun _ => obl_post)

end Body

/-! ## A SparseCore's operands split among its tiles -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The shared scratch, whole, is its sixteen rows. -/
theorem sh_split (d : Dev nD) (c : Fin τ.nSC) :
    (iprop(∃ f, shLoc d c ↦{fullShare} f) : sProp 𝕄) ⊢ bigSep Finset.univ fun s : Fin 16 => shPts d c s := by
  iintro ⟨%f, H⟩
  have e : (shLoc d c ↦{fullShare} f : sProp 𝕄) = bigSep Finset.univ fun s : Fin 16 => shLoc d c ↦[shSet s]{fullShare} f := by
    rw [← pointsTo_biUnion Finset.univ (ℓ := shLoc d c) shSet shSet_disjoint, shSet_cover]
  ihave H' := (Entails.of_eq e) $$ H
  iapply (SparseCore.ent (bigSep_mono (Φ := fun s : Fin 16 => (shLoc d c ↦[shSet s]{fullShare} f : sProp 𝕄)) (Ψ := fun s => shPts d c s)
    fun s _ => BI.BIClass.exists_intro (Φ := fun f => (shLoc d c ↦[shSet s]{fullShare} f : sProp 𝕄)) f))
  iexact H'

set_option maxRecDepth 4096 in
/-- The sixteen rows, each at contents of its own, are the shared scratch at some contents. -/
theorem sh_join [∀ e, Nonempty (Elt F e)] (d : Dev nD) (c : Fin τ.nSC) :
    (bigSep Finset.univ fun s : Fin 16 => shPts (F := F) d c s) ⊢ (iprop(∃ f, shLoc d c ↦{fullShare} f) : sProp 𝕄) := by
  refine (bigSep_exists_pi Finset.univ (fun s (f : Buf (Elt F) (shLoc d c)) => (shLoc d c ↦[shSet s]{fullShare} f : sProp 𝕄))).trans ?_
  iintro ⟨%fs, H⟩
  ihave H' := (pointsTo_biUnion_join (ℓ := shLoc d c) (q := fullShare) (Val := Elt F) Finset.univ shSet fs (fs 0) shSet_disjoint) $$ H
  icases H' with ⟨%g, -, Hg⟩
  rw [shSet_cover]
  iexists g; iexact Hg

/-- The shared scratch is among the sequencer's own buffers. -/
theorem ownBufs_S (d : Dev nD) (c : Fin τ.nSC) :
    (ownBufs (S d c) : sProp 𝕄)
      = iprop((∃ f, shLoc d c ↦{fullShare} f)
          ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

theorem vecSplit [FloatOps F] [∀ e, Nonempty (Elt F e)] : (K (F := F)).VecSplit (P m) 0 := by
  intro d c
  show iprop(coreBlocks m d (Fin.cast nCore_zero c) (m (oLoc d)) ∗ ownBufs (S d (coreOf c))) ⊢ |={Set.univ}=> iprop(
      (bigSep Finset.univ fun i : Fin ((K (F := F)).nSub 0) => iprop(blocks m d (Fin.cast nCore_zero c) (Fin.cast nSub_zero i) (m (oLoc d))
        ∗ shPts d (coreOf c) (Fin.cast nSub_zero i)))
      ∗ ((bigSep Finset.univ fun i : Fin ((K (F := F)).nSub 0) => iprop(blocks m d (Fin.cast nCore_zero c) (Fin.cast nSub_zero i) (G m d)
            ∗ shPts d (coreOf c) (Fin.cast nSub_zero i)))
          -∗ iprop(coreBlocks m d (Fin.cast nCore_zero c) (G m d) ∗ ownBufs (S d (coreOf c)))))
  rw [bigSep_tasks (F := F) (fun i => iprop(blocks m d (Fin.cast nCore_zero c) i (m (oLoc d)) ∗ shPts d (coreOf c) i)),
    bigSep_tasks (F := F) (fun i => iprop(blocks m d (Fin.cast nCore_zero c) i (G m d) ∗ shPts d (coreOf c) i)),
    bigSep_sep', bigSep_sep', ownBufs_S]
  iintro ⟨Hb, Hsh, Hrest⟩; imodintro
  isplitl [Hb Hsh]
  · isplitl [Hb]; · iexact Hb
    iapply (sh_split d (coreOf c)); iexact Hsh
  iintro ⟨Hb, Hsh⟩
  isplitl [Hb]; · iexact Hb
  isplitl [Hsh]; · iapply (sh_join d (coreOf c)); iexact Hsh
  iexact Hrest

/-! ## The two buffers split into all blocks -/

/-- The table at the launch contents and the result at contents `f` are the two SparseCores' blocks. -/
theorem all_blocks (d : Dev nD) (f : Buf (Elt F) (oLoc d)) :
    (iprop((tLoc d ↦{fullShare} m (tLoc d)) ∗ oLoc d ↦{fullShare} f) : sProp 𝕄) = bigSep Finset.univ fun c : Fin 2 => coreBlocks m d c f := by
  have et : (tLoc d ↦{fullShare} m (tLoc d) : sProp 𝕄)
      = bigSep Finset.univ fun c : Fin 2 => bigSep Finset.univ fun s : Fin 16 => bigSep Finset.univ fun h : Fin 2 => tPts m d c s h := by
    rw [show (tLoc d ↦{fullShare} m (tLoc d) : sProp 𝕄)
        = bigSep Finset.univ fun p : Fin 2 × Fin 16 × Fin 2 => tLoc d ↦[tSet p.1 p.2.1 p.2.2]{fullShare} m (tLoc d) by
      rw [← pointsTo_biUnion Finset.univ (ℓ := tLoc d) _ tSet_disjoint, tSet_cover], bigSep_univ_prod]
    exact bigSep_congr fun c _ => bigSep_univ_prod _
  have eo : (oLoc d ↦{fullShare} f : sProp 𝕄)
      = bigSep Finset.univ fun c : Fin 2 => bigSep Finset.univ fun s : Fin 16 => bigSep Finset.univ fun h : Fin 2 =>
          bigSep Finset.univ fun b : Fin 4 => oPts d c s h b f := by
    rw [show (oLoc d ↦{fullShare} f : sProp 𝕄)
        = bigSep Finset.univ fun p : Fin 2 × Fin 16 × Fin 2 × Fin 4 => oLoc d ↦[oSet p.1 p.2.1 p.2.2.1 p.2.2.2]{fullShare} f by
      rw [← pointsTo_biUnion Finset.univ (ℓ := oLoc d) _ oSet_disjoint, oSet_cover], bigSep_univ_prod]
    exact bigSep_congr fun c _ => (bigSep_univ_prod _).trans (bigSep_congr fun s _ => bigSep_univ_prod _)
  rw [et, eo, ← bigSep_sep']
  exact bigSep_congr fun c _ => (bigSep_sep' _ _ _).symm

theorem st0_eq (d : Dev nD) : (bigSep Finset.univ fun c : Fin ((K (F := F)).nCore 0) => (P m).st 0 d c)
    = iprop((tLoc d ↦{fullShare} m (tLoc d)) ∗ oLoc d ↦{fullShare} m (oLoc d)) :=
  (bigSep_cores (fun c => coreBlocks m d c (m (oLoc d)))).trans (all_blocks m d _).symm
theorem dn0_eq (d : Dev nD) : (bigSep Finset.univ fun c : Fin ((K (F := F)).nCore 0) => (P m).dn 0 d c)
    = iprop((tLoc d ↦{fullShare} m (tLoc d)) ∗ oLoc d ↦{fullShare} G m d) :=
  (bigSep_cores (fun c => coreBlocks m d c (G m d))).trans (all_blocks m d _).symm

/-! ## The launch -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

theorem unscopedBufs_eq (d : Dev nD) (W : (b : Ref sig .tc) → Buf (Elt F) ((d.tc : Thread nD τ).loc b)) :
    (unscopedBufs d W : sProp 𝕄) = iprop((eLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the program ends with: the arguments as they were, the result written. -/
abbrev FIN (d : Dev nD) : sProp 𝕄 :=
  iprop((eLoc d ↦{fullShare} m (eLoc d)) ∗ (tLoc d ↦{fullShare} m (tLoc d)) ∗ oLoc d ↦{fullShare} G m d)

variable [FloatOps F]

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨He, Ht, Ho⟩, Hts, -⟩, -⟩
  iapply ((K (F := F)).wp_run (D (F := F)) 𝒱 (EH := EH) (P := P m) κ d 0) $$ [Hst He Ht Ho Hb Hts]
  isplitr; · iexact Hctx
  isplitl [Hst]; · iexact Hst
  isplitl [Ht Ho]
  · rw [st0_eq]
    isplitl [Ht] <;> iassumption
  iintro ⟨Hst, Hdn⟩
  ihave Hdn' := (Entails.of_eq (dn0_eq m d)) $$ Hdn
  icases Hdn' with ⟨Ht, Ho⟩
  imodintro
  isplitl [Hst]; · iexact Hst
  isplitr [Hb Hts]
  · isplitl [He]; · iexact He
    isplitl [Ht] <;> iassumption
  isplitl [Hb] <;> iassumption

def fq (d : Dev nD) (s' : Phys nD τ sig (Elt F)) : Prop :=
  s'.mem.mem (eLoc d) = m (eLoc d) ∧ s'.mem.mem (tLoc d) = m (tLoc d) ∧ s'.mem.mem (oLoc d) = G m d

/-- A buffer held whole is what the memory holds. -/
theorem mem_of_pointsTo (s' : Phys nD τ sig (Elt F)) (ℓ : Loc nD τ sig) (f : Buf (Elt F) ℓ) :
    iprop(SI s' ∗ ℓ ↦{fullShare} f) ⊢ (⌜s'.mem.mem ℓ = f⌝ : sProp 𝕄) := by
  iintro H
  ihave H' := (SI_pointsTo_agree (st := s') (ℓ := ℓ) (I := Finset.univ) (q := fullShare) (f := f)) $$ H
  icases H' with %h
  ipureintro; exact funext fun i => h i (Finset.mem_univ i)

theorem hfin (d : Dev nD) (s' : Phys nD τ sig (Elt F)) : iprop(FIN m d ∗ SI s') ⊢ (⌜fq m d s'⌝ : sProp 𝕄) := by
  iintro ⟨⟨He, Ht, Ho⟩, HSI⟩
  ihave H := (persistent_entails_right (mem_of_pointsTo s' (eLoc d) (m (eLoc d)))) $$ [HSI He]
  · isplitl [HSI] <;> iassumption
  icases H with ⟨%h1, HSI, -⟩
  ihave H := (persistent_entails_right (mem_of_pointsTo s' (tLoc d) (m (tLoc d)))) $$ [HSI Ht]
  · isplitl [HSI] <;> iassumption
  icases H with ⟨%h2, HSI, -⟩
  ihave H := (mem_of_pointsTo s' (oLoc d) (G m d)) $$ [HSI Ho]
  · isplitl [HSI] <;> iassumption
  icases H with %h3
  ipureintro; exact ⟨h1, h2, h3⟩

def QC : PUnit × MemSt nD τ sig (Elt F) → Prop := fun r =>
  (∀ c : Dev nD, r.2.mem (eLoc c) = m (eLoc c) ∧ r.2.mem (tLoc c) = m (tLoc c) ∧ r.2.mem (oLoc c) = G m c) ∧ r.2.sem = fun _ => 0

/-- The program's run, in any number domain: both arguments unchanged, the result the table in each batch entry, every
    semaphore back at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m)
    (fun q _ => match q with | 0 => vecSplit m)
    m ρ main (fun _ => iprop(emp)) (FIN m) (u₀ (F := F)) (sep_elim_left.trans (hu₀ m)) (hmain m ρ) (fq m) (hfin m) (QC m) (fun _ h hz => ⟨h, hz⟩)

end Cert.PosEmbed

end
-- ==== Proof.Ref.lean ====
/-
  The reference's result: each batch entry is the table. The positions 0 … 4095 are all in the table's range, so the lookup
  neither wraps nor masks one of them, and reads row `p` for position `p`.
-/
module

public import proofs.«01_k».proof.Proof.Gen.ReferenceIdeal.Run
public import Idealize.ShloMosaic.Lib.ValueIdx
public import Idealize.ShloMosaic.Lib.WordArith
public import Idealize.ShloMosaic.Lib.ReduceAll
public import Idealize.ShloMosaic.Lib.Quiescent

@[expose] public section

noncomputable section

namespace Cert.PosEmbed.Ref

open Cert.ReferenceIdeal Cert.ReferenceIdeal.Gen
open Idealize.ShloMosaic Idealize.ShloMosaic.TcCoe Idealize.SL.Sem

variable {F : FTy → Type} [FloatOps F]

/-- The positions, one row for each batch entry. -/
def positions : IVec S4x4096 32 :=
  broadcastInDim S4x4096 ![0, 1] bcast_S1x4096_S4x4096_0_1 (broadcastInDim S1x4096 ![1] bcast_S4096_S1x4096_1 (iotaInDim S4096 32 0))

theorem positions_apply (k : S4x4096.Idx) : positions k = BitVec.ofNat 32 (k 1).val := rfl

/-- The rows looked up: the positions, a negative one counted from the table's end. -/
def rows : IVec S4x4096x1 32 :=
  broadcastInDim S4x4096x1 ![0, 1] bcast_S4x4096_S4x4096x1_0_1
    (select (cmpi .slt positions (broadcastInDim S4x4096 ![] bcast_S_S4x4096 (constantI S_ 32 0#32)))
      (addi positions (broadcastInDim S4x4096 ![] bcast_S_S4x4096 (constantI S_ 32 4096#32))) positions)

theorem pos_toInt (p : Fin 4096) : (BitVec.ofNat 32 p.val).toInt = p.val := WordArith.toInt_ofNat_small _ (by have := p.isLt; omega)

theorem pos_not_neg (p : Fin 4096) : IntOp.cmpi .slt (BitVec.ofNat 32 p.val) 0#32 = 0#1 := by
  have h := pos_toInt p
  simp only [IntOp.cmpi, BitVec.slt_eq_decide, h]
  rw [decide_eq_false (by simp)]; rfl

/-- Row `p` for position `p`. -/
theorem rows_apply (k : S4x4096x1.Idx) : rows k = BitVec.ofNat 32 (k 1).val := by
  show (if IntOp.cmpi .slt (BitVec.ofNat 32 (k 1).val) 0#32 = 1#1 then _ else BitVec.ofNat 32 (k 1).val) = _
  rw [pos_not_neg (k 1)]; rfl

/-- Which of the rows looked up lie in the table. -/
def inTable : IVec S4x4096x1 1 :=
  andi (cmpi .sge rows (broadcastInDim S4x4096x1 ![] bcast_S_S4x4096x1 (constantI S_ 32 0#32)))
    (cmpi .sle rows (broadcastInDim S4x4096x1 ![0, 1, 2] bcast_S1x1x1_S4x4096x1_0_1_2
      (broadcastInDim S1x1x1 ![2] bcast_S1_S1x1x1_2 (constantI S1 32 4095#32))))

/-- All of them. -/
theorem inTable_apply (k : S4x4096x1.Idx) : inTable k = 1#1 := by
  show IntOp.andi (IntOp.cmpi .sge (rows k) 0#32) (IntOp.cmpi .sle (rows k) 4095#32) = 1#1
  have hk : (k 1).val < 4096 := (k 1).isLt
  have h := pos_toInt (k 1)
  rw [rows_apply]
  simp only [IntOp.cmpi, BitVec.sle_eq_decide, h]
  rw [decide_eq_true (by simp), decide_eq_true (by show ((k 1).val : ℤ) ≤ 4095; omega)]; rfl

/-- The lookup of the rows: entry `(b, p, y)` is the table's `(p, y)`. -/
theorem lookup_apply (x : S4096x1024.Idx → Elt F .f32) (j : S4x4096x1024.Idx) :
    Host.gather gather_S4096x1024_S4x4096x1_S4x4096x1024_2_0_n_n_0_2_11024 x rows j = x (ValueIdx.ix2 (j 1) (j 2)) := by
  refine congrArg x (funext fun a => Fin.ext ?_)
  have hj : (j 1).val < 4096 := (j 1).isLt
  match a with
  | ⟨0, _⟩ =>
    -- the looked-up row, which the lookup's clamp to the table's last row leaves as it is
    show min (rows (gather_S4096x1024_S4x4096x1_S4x4096x1024_2_0_n_n_0_2_11024.siIdx j ⟨0, by decide⟩)).toInt.toNat 4095 + 0 + 0 = (j 1).val
    rw [rows_apply]
    show min (BitVec.ofNat 32 (j 1).val).toInt.toNat 4095 + 0 + 0 = (j 1).val
    rw [pos_toInt (j 1)]
    omega
  | ⟨1, _⟩ =>
    -- a row is taken whole, so its column is the result's
    show 0 + 0 + (j 2).val = (j 2).val
    omega

/-- The reference's result as a function of the table. -/
theorem result_eq (x : S4096x1024.Idx → Elt F .f32) :
    select (broadcastInDim S4x4096x1024 ![0, 1] bcast_S4x4096_S4x4096x1024_0_1
        (Host.reduce IntOp.andi inTable (constantI S_ 1 1#1) reducesTo_S4x4096x1_S4x4096_d2 h_S_))
      (Host.gather gather_S4096x1024_S4x4096x1_S4x4096x1024_2_0_n_n_0_2_11024 x rows)
      (broadcastInDim S4x4096x1024 ![] bcast_S_S4x4096x1024 (constant (F := F) S_ .f32 0x7FC00000#32))
    = fun j => x (ValueIdx.ix2 (j 1) (j 2)) := by
  funext j
  have hm (k : S4x4096.Idx) : Host.reduce IntOp.andi inTable (constantI S_ 1 1#1) reducesTo_S4x4096x1_S4x4096_d2 h_S_ k = 1#1 :=
    Host.reduce_andi_one _ _ _ _ k rfl inTable_apply
  generalize Host.reduce IntOp.andi inTable (constantI S_ 1 1#1) reducesTo_S4x4096x1_S4x4096_d2 h_S_ = mask at hm
  rw [← lookup_apply x j]
  exact if_pos (hm _)

/-- The reference's run. -/
theorem run (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_v3) = (fun j : S4x4096x1024.Idx => m ((c.tc : Thread nD τ).loc main_arg1) (ValueIdx.ix2 (j 1) (j 2)))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1.trans (result_eq _), (h c).2⟩, Idealize.ShloMosaic.sem_eq_zero_of_no_sems (by decide) r.2⟩)
    (Cert.ReferenceIdeal.Value.run (F := F) m ρ)

end Cert.PosEmbed.Ref

end
-- ==== Proof.lean ====
/-
  The proof of `Cert.Claim`. The kernel's run (`Proof/Launch.lean`) and the reference's (`Proof/Ref.lean`) are stated once, over
  any float model; the frames are their arguments' and semaphores' parts, and the two value claims say that both runs end
  with the table in each batch entry.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Launch
public import proofs.«01_k».proof.Proof.Ref

@[expose] public section

noncomputable section

namespace Cert.Proof

open Idealize.ShloMosaic Idealize.SL.Sem Cert.PosEmbed

/-! ### The frames. A program and its idealization have the same text, so each pair shares one run. -/

theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem frame_referenceIdeal : Cert.quiescent_ReferenceIdeal := fun m ρ _ =>
  (θ_run Cert.ReferenceIdeal.defs _ _).mono (fun _ h => ⟨fun c => (h.1 c).2, h.2⟩) (Ref.run (F := Ideal) m ρ)

theorem frame_reference : Cert.quiescent_Reference := fun m ρ _ =>
  (θ_run Cert.ReferenceIdeal.defs _ _).mono (fun _ h => ⟨fun c => (h.1 c).2, h.2⟩) (Ref.run (F := Bits) m ρ)

/-! ### The values: both results are the kernel's `G`, the table in each batch entry. -/

theorem algebraic : Cert.algebraic_KernelIdeal_ReferenceIdeal := fun m ρ m' ρ' _ hm => ⟨fun c => G m c,
  (θ_run Cert.KernelIdeal.defs _ _).mono (fun _ h c => ⟨(h.1 c).2.2, (h.1 c).1, (h.1 c).2.1⟩) (run_main (F := Ideal) m ρ),
  (θ_run Cert.ReferenceIdeal.defs _ _).mono
    (fun _ h c => ⟨(h.1 c).1.trans (funext fun j => congrFun (hm c).2 (tIdx j)), (h.1 c).2⟩) (Ref.run (F := Ideal) m' ρ')⟩

theorem bitexact : Cert.bitexact_Kernel_Reference := fun m ρ m' ρ' _ hm => ⟨fun c => G m c,
  (θ_run Cert.KernelIdeal.defs _ _).mono (fun _ h c => ⟨(h.1 c).2.2, (h.1 c).1, (h.1 c).2.1⟩) (run_main (F := Bits) m ρ),
  (θ_run Cert.ReferenceIdeal.defs _ _).mono
    (fun _ h c => ⟨(h.1 c).1.trans (funext fun j => congrFun (hm c).2 (tIdx j)), (h.1 c).2⟩) (Ref.run (F := Bits) m' ρ')⟩

theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
